-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32x8400x80 : Shape := ⟨3, ![32, 8400, 80]⟩
abbrev S32x8400x4 : Shape := ⟨3, ![32, 8400, 4]⟩
abbrev S8400x2 : Shape := ⟨2, ![8400, 2]⟩
abbrev S32x8400 : Shape := ⟨2, ![32, 8400]⟩
abbrev S_ : Shape := ⟨0, ![]⟩

class Facts : Prop where
  bcast_S_S32x8400x80 : S_.BroadcastsInDim S32x8400x80 (![] : Fin 0 → Fin S32x8400x80.rank)
  bcast_S_S32x8400 : S_.BroadcastsInDim S32x8400 (![] : Fin 0 → Fin S32x8400.rank)
  reducesTo_S32x8400x80_S_d0_1_2 : S32x8400x80.ReducesTo [0, 1, 2] S_
  h_S_ : 0 < S_.numel
  reducesTo_S32x8400_S_d0_1 : S32x8400.ReducesTo [0, 1] S_

variable [Facts]

def fn_where {F : FTy → Type} [FloatOps F] (arg0 : IVec S32x8400 1) (arg1 : IVec S32x8400 32) (arg2 : IVec S_ 32) : IVec S32x8400 32 :=
  let v0 : IVec S_ 32 := id arg2
  let v1 : IVec S32x8400 32 := broadcastInDim S32x8400 ![] bcast_S_S32x8400 v0
  let v2 : IVec S32x8400 32 := select arg0 arg1 v1
  v2

def fn {F : FTy → Type} [FloatOps F] (main_arg0 : FVec F S32x8400x80 .f32) (main_arg1 : FVec F S32x8400x4 .f32) (main_arg2 : FVec F S8400x2 .f32) (main_arg3 : FVec F S32x8400x4 .f32) (main_arg4 : FVec F S32x8400x80 .f32) (main_arg5 : IVec S32x8400 32) (main_arg6 : IVec S32x8400 1) : IVec S_ 1 × IVec S_ 1 × IVec S_ 1 :=
  let main_cst : FVec F S_ .f32 := constant S_ .f32 0x2B8CBCCC#32
  let main_v0 : FVec F S32x8400x80 .f32 := broadcastInDim S32x8400x80 ![] bcast_S_S32x8400x80 main_cst
  let main_v1 : IVec S32x8400x80 1 := cmpf .oge main_arg0 main_v0
  let main_cst_0 : FVec F S_ .f32 := constant S_ .f32 0x3F800000#32
  let main_v2 : FVec F S32x8400x80 .f32 := broadcastInDim S32x8400x80 ![] bcast_S_S32x8400x80 main_cst_0
  let main_v3 : IVec S32x8400x80 1 := cmpf .olt main_arg0 main_v2
  let main_v4 : IVec S32x8400x80 1 := andi main_v1 main_v3
  let main_c : IVec S_ 32 := constantI S_ 32 0#32
  let main_v5 : IVec S32x8400 32 := fn_where (F := F) main_arg6 main_arg5 main_c
  let main_c_1 : IVec S_ 32 := constantI S_ 32 80#32
  let main_v6 : IVec S32x8400 32 := broadcastInDim S32x8400 ![] bcast_S_S32x8400 main_c_1
  let main_v7 : IVec S32x8400 1 := cmpi .ne main_v5 main_v6
  let main_cst_2 : FVec F S_ .f32 := constant S_ .f32 0x00000000#32
  let main_v8 : FVec F S_ .f32 := (fun x v => Host.reduceAdd x v reducesTo_S32x8400x80_S_d0_1_2 h_S_) main_arg4 main_cst_2
  let main_cst_3 : FVec F S_ .f32 := constant S_ .f32 0x00000000#32
  let main_v9 : IVec S_ 1 := cmpf .une main_v8 main_cst_3
  let main_c_4 : IVec S_ 1 := constantI S_ 1 1#1
  let main_v10 : IVec S_ 1 := (fun x v => Host.reduce IntOp.andi x v reducesTo_S32x8400x80_S_d0_1_2 h_S_) main_v4 main_c_4
  let main_c_5 : IVec S_ 1 := constantI S_ 1 1#1
  let main_v11 : IVec S_ 1 := (fun x v => Host.reduce IntOp.andi x v reducesTo_S32x8400_S_d0_1 h_S_) main_v7 main_c_5
  (main_v10, main_v11, main_v9)
-- ==== Kernel.lean ====
abbrev S32x8400x80 : Shape := ⟨3, ![32, 8400, 80]⟩
abbrev S32x8400x4 : Shape := ⟨3, ![32, 8400, 4]⟩
abbrev S8400x2 : Shape := ⟨2, ![8400, 2]⟩
abbrev S32x8400 : Shape := ⟨2, ![32, 8400]⟩
abbrev S32x80x8400 : Shape := ⟨3, ![32, 80, 8400]⟩
abbrev S32x4x8400 : Shape := ⟨3, ![32, 4, 8400]⟩
abbrev S_ : Shape := ⟨0, ![]⟩
abbrev S32x1x8400 : Shape := ⟨3, ![32, 1, 8400]⟩
abbrev S32x3x8400 : Shape := ⟨3, ![32, 3, 8400]⟩
abbrev S2x8400 : Shape := ⟨2, ![2, 8400]⟩
abbrev S4x8400 : Shape := ⟨2, ![4, 8400]⟩
abbrev S8x8400 : Shape := ⟨2, ![8, 8400]⟩
abbrev S4x80x8400 : Shape := ⟨3, ![4, 80, 8400]⟩
abbrev S4x4x8400 : Shape := ⟨3, ![4, 4, 8400]⟩
abbrev S4x1x8400 : Shape := ⟨3, ![4, 1, 8400]⟩
abbrev S320x8400 : Shape := ⟨2, ![320, 8400]⟩
abbrev S1x320 : Shape := ⟨2, ![1, 320]⟩
abbrev S1x8400 : Shape := ⟨2, ![1, 8400]⟩
abbrev S4x1 : Shape := ⟨2, ![4, 1]⟩
abbrev S1x80x8400 : Shape := ⟨3, ![1, 80, 8400]⟩
abbrev S80x8400 : Shape := ⟨2, ![80, 8400]⟩
abbrev S8400 : Shape := ⟨1, ![8400]⟩
abbrev S1x4x8400 : Shape := ⟨3, ![1, 4, 8400]⟩
abbrev S1x1x8400 : Shape := ⟨3, ![1, 1, 8400]⟩

abbrev nBuf : Space → Nat
  | .hbm => 42
  | .vmem => 12
  | .smem => 0
  | _ => 0

abbrev bufTy : (tb : Table) → Fin (tcTables nBuf tb) → BufTy
  | .hbm, ⟨0, _⟩ => ⟨S32x8400x80, .f32⟩
  | .hbm, ⟨1, _⟩ => ⟨S32x8400x4, .f32⟩
  | .hbm, ⟨2, _⟩ => ⟨S8400x2, .f32⟩
  | .hbm, ⟨3, _⟩ => ⟨S32x8400x4, .f32⟩
  | .hbm, ⟨4, _⟩ => ⟨S32x8400x80, .f32⟩
  | .hbm, ⟨5, _⟩ => ⟨S32x8400, .i32⟩
  | .hbm, ⟨6, _⟩ => ⟨S32x8400, .i1⟩
  | .hbm, ⟨7, _⟩ => ⟨S32x80x8400, .f32⟩
  | .hbm, ⟨8, _⟩ => ⟨S32x80x8400, .f32⟩
  | .hbm, ⟨9, _⟩ => ⟨S32x4x8400, .f32⟩
  | .hbm, ⟨10, _⟩ => ⟨S32x4x8400, .f32⟩
  | .hbm, ⟨11, _⟩ => ⟨S_, .i32⟩
  | .hbm, ⟨12, _⟩ => ⟨S_, .i32⟩
  | .hbm, ⟨13, _⟩ => ⟨S32x8400, .i32⟩
  | .hbm, ⟨14, _⟩ => ⟨S32x8400, .i32⟩
  | .hbm, ⟨15, _⟩ => ⟨S32x8400, .f32⟩
  | .hbm, ⟨16, _⟩ => ⟨S32x1x8400, .f32⟩
  | .hbm, ⟨17, _⟩ => ⟨S_, .f32⟩
  | .hbm, ⟨18, _⟩ => ⟨S32x3x8400, .f32⟩
  | .hbm, ⟨19, _⟩ => ⟨S32x4x8400, .f32⟩
  | .hbm, ⟨20, _⟩ => ⟨S2x8400, .f32⟩
  | .hbm, ⟨21, _⟩ => ⟨S_, .f32⟩
  | .hbm, ⟨22, _⟩ => ⟨S4x8400, .f32⟩
  | .hbm, ⟨23, _⟩ => ⟨S8x8400, .f32⟩
  | .hbm, ⟨24, _⟩ => ⟨S8x8400, .f32⟩
  | .hbm, ⟨25, _⟩ => ⟨S1x8400, .f32⟩
  | .hbm, ⟨26, _⟩ => ⟨S8400, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x8400, .f32⟩
  | .hbm, ⟨31, _⟩ => ⟨S8400, .f32⟩
  | .hbm, ⟨32, _⟩ => ⟨S_, .f32⟩
  | .hbm, ⟨33, _⟩ => ⟨S_, .f32⟩
  | .hbm, ⟨34, _⟩ => ⟨S1x8400, .f32⟩
  | .hbm, ⟨35, _⟩ => ⟨S8400, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4x80x8400, .f32⟩
  | .local _ .vmem, ⟨1, _⟩ => ⟨S4x80x8400, .f32⟩
  | .local _ .vmem, ⟨2, _⟩ => ⟨S4x80x8400, .f32⟩
  | .local _ .vmem, ⟨3, _⟩ => ⟨S4x80x8400, .f32⟩
  | .local _ .vmem, ⟨4, _⟩ => ⟨S4x4x8400, .f32⟩
  | .local _ .vmem, ⟨5, _⟩ => ⟨S4x4x8400, .f32⟩
  | .local _ .vmem, ⟨6, _⟩ => ⟨S4x4x8400, .f32⟩
  | .local _ .vmem, ⟨7, _⟩ => ⟨S4x4x8400, .f32⟩
  | .local _ .vmem, ⟨8, _⟩ => ⟨S4x4x8400, .f32⟩
  | .local _ .vmem, ⟨9, _⟩ => ⟨S4x4x8400, .f32⟩
  | .local _ .vmem, ⟨10, _⟩ => ⟨S8x8400, .f32⟩
  | .local _ .vmem, ⟨11, _⟩ => ⟨S8x8400, .f32⟩
  | _, _ => ⟨S32x8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x80x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x80x8400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x8400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x8400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x8400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x8400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x8400x80 : Shape := ⟨3, ![32, 8400, 80]⟩
abbrev S32x8400x4 : Shape := ⟨3, ![32, 8400, 4]⟩
abbrev S8400x2 : Shape := ⟨2, ![8400, 2]⟩
abbrev S32x8400 : Shape := ⟨2, ![32, 8400]⟩
abbrev S32x8400x2 : Shape := ⟨3, ![32, 8400, 2]⟩
abbrev S1x8400x2 : Shape := ⟨3, ![1, 8400, 2]⟩
abbrev S_ : Shape := ⟨0, ![]⟩
abbrev S32x8400x1 : Shape := ⟨3, ![32, 8400, 1]⟩
abbrev S1x1x81 : Shape := ⟨3, ![1, 1, 81]⟩
abbrev S32x8400x81 : Shape := ⟨3, ![32, 8400, 81]⟩

abbrev nBuf : Space → Nat
  | .hbm => 131
  | .vmem => 0
  | .smem => 0
  | _ => 0

abbrev hbmTy0_0 (i : Nat) : BufTy := match i % 128 with
  | 0 => ⟨S32x8400x80, .f32⟩
  | 1 => ⟨S32x8400x4, .f32⟩
  | 2 => ⟨S8400x2, .f32⟩
  | 3 => ⟨S32x8400x4, .f32⟩
  | 4 => ⟨S32x8400x80, .f32⟩
  | 5 => ⟨S32x8400, .i32⟩
  | 6 => ⟨S32x8400, .i1⟩
  | 7 => ⟨S32x8400x2, .f32⟩
  | 8 => ⟨S32x8400x2, .f32⟩
  | 9 => ⟨S1x8400x2, .f32⟩
  | 10 => ⟨S32x8400x2, .f32⟩
  | 11 => ⟨S32x8400x2, .f32⟩
  | 12 => ⟨S1x8400x2, .f32⟩
  | 13 => ⟨S32x8400x2, .f32⟩
  | 14 => ⟨S32x8400x2, .f32⟩
  | 15 => ⟨S32x8400x4, .f32⟩
  | 16 => ⟨S_, .i32⟩
  | 17 => ⟨S_, .i32⟩
  | 18 => ⟨S32x8400, .i32⟩
  | 19 => ⟨S32x8400, .i32⟩
  | 20 => ⟨S32x8400x1, .i32⟩
  | 21 => ⟨S1x1x81, .i32⟩
  | 22 => ⟨S32x8400x81, .i32⟩
  | 23 => ⟨S32x8400x81, .i32⟩
  | 24 => ⟨S32x8400x81, .i1⟩
  | 25 => ⟨S32x8400x81, .f32⟩
  | 26 => ⟨S32x8400x80, .f32⟩
  | 27 => ⟨S_, .f32⟩
  | 28 => ⟨S32x8400x80, .f32⟩
  | 29 => ⟨S32x8400x80, .f32⟩
  | 30 => ⟨S_, .f32⟩
  | 31 => ⟨S32x8400x80, .f32⟩
  | 32 => ⟨S32x8400x80, .f32⟩
  | 33 => ⟨S_, .f32⟩
  | 34 => ⟨S32x8400x80, .f32⟩
  | 35 => ⟨S32x8400x80, .f32⟩
  | 36 => ⟨S32x8400x80, .f32⟩
  | 37 => ⟨S32x8400x80, .f32⟩
  | 38 => ⟨S32x8400x80, .f32⟩
  | 39 => ⟨S_, .f32⟩
  | 40 => ⟨S_, .f32⟩
  | 41 => ⟨S_, .f32⟩
  | 42 => ⟨S32x8400x80, .f32⟩
  | 43 => ⟨S32x8400x80, .f32⟩
  | 44 => ⟨S_, .f32⟩
  | 45 => ⟨S32x8400x80, .f32⟩
  | 46 => ⟨S32x8400x80, .f32⟩
  | 47 => ⟨S32x8400x80, .f32⟩
  | 48 => ⟨S32x8400x80, .f32⟩
  | 49 => ⟨S_, .f32⟩
  | 50 => ⟨S32x8400x80, .f32⟩
  | 51 => ⟨S32x8400x80, .f32⟩
  | 52 => ⟨S_, .f32⟩
  | 53 => ⟨S32x8400x80, .f32⟩
  | 54 => ⟨S32x8400x80, .f32⟩
  | 55 => ⟨S32x8400x80, .f32⟩
  | 56 => ⟨S32x8400x80, .f32⟩
  | 57 => ⟨S32x8400x80, .f32⟩
  | 58 => ⟨S32x8400x80, .f32⟩
  | 59 => ⟨S32x8400x80, .f32⟩
  | 60 => ⟨S_, .f32⟩
  | 61 => ⟨S_, .f32⟩
  | 62 => ⟨S_, .f32⟩
  | 63 => ⟨S_, .f32⟩
  | 64 => ⟨S_, .f32⟩
  | 65 => ⟨S32x8400x1, .f32⟩
  | 66 => ⟨S32x8400x1, .f32⟩
  | 67 => ⟨S32x8400x1, .f32⟩
  | 68 => ⟨S32x8400x1, .f32⟩
  | 69 => ⟨S32x8400x1, .f32⟩
  | 70 => ⟨S32x8400x1, .f32⟩
  | 71 => ⟨S32x8400x1, .f32⟩
  | 72 => ⟨S32x8400x1, .f32⟩
  | 73 => ⟨S32x8400x1, .f32⟩
  | 74 => ⟨S32x8400x1, .f32⟩
  | 75 => ⟨S32x8400x1, .f32⟩
  | 76 => ⟨S_, .f32⟩
  | 77 => ⟨S_, .f32⟩
  | 78 => ⟨S32x8400x1, .f32⟩
  | 79 => ⟨S32x8400x1, .f32⟩
  | 80 => ⟨S32x8400x1, .f32⟩
  | 81 => ⟨S32x8400x1, .f32⟩
  | 82 => ⟨S32x8400x1, .f32⟩
  | 83 => ⟨S_, .f32⟩
  | 84 => ⟨S_, .f32⟩
  | 85 => ⟨S32x8400x1, .f32⟩
  | 86 => ⟨S32x8400x1, .f32⟩
  | 87 => ⟨S32x8400x1, .f32⟩
  | 88 => ⟨S32x8400x1, .f32⟩
  | 89 => ⟨S32x8400x1, .f32⟩
  | 90 => ⟨S32x8400x1, .f32⟩
  | 91 => ⟨S32x8400x1, .f32⟩
  | 92 => ⟨S32x8400x1, .f32⟩
  | 93 => ⟨S32x8400x1, .f32⟩
  | 94 => ⟨S32x8400x1, .f32⟩
  | 95 => ⟨S32x8400x1, .f32⟩
  | 96 => ⟨S_, .f32⟩
  | 97 => ⟨S32x8400x1, .f32⟩
  | 98 => ⟨S32x8400x1, .f32⟩
  | 99 => ⟨S32x8400x1, .f32⟩
  | 100 => ⟨S32x8400x1, .f32⟩
  | 101 => ⟨S32x8400x1, .f32⟩
  | 102 => ⟨S32x8400x1, .f32⟩
  | 103 => ⟨S32x8400x1, .f32⟩
  | 104 => ⟨S32x8400x1, .f32⟩
  | 105 => ⟨S32x8400x1, .f32⟩
  | 106 => ⟨S32x8400x1, .f32⟩
  | 107 => ⟨S_, .f32⟩
  | 108 => ⟨S32x8400x1, .f32⟩
  | 109 => ⟨S32x8400x1, .f32⟩
  | 110 => ⟨S32x8400x1, .f32⟩
  | 111 => ⟨S32x8400x1, .f32⟩
  | 112 => ⟨S32x8400x1, .f32⟩
  | 113 => ⟨S_, .f32⟩
  | 114 => ⟨S32x8400, .f32⟩
  | 115 => ⟨S32x8400x1, .f32⟩
  | 116 => ⟨S32x8400, .f32⟩
  | 117 => ⟨S32x8400x1, .f32⟩
  | 118 => ⟨S_, .f32⟩
  | 119 => ⟨S32x8400x1, .f32⟩
  | 120 => ⟨S32x8400x1, .f32⟩
  | 121 => ⟨S32x8400x1, .f32⟩
  | 122 => ⟨S32x8400x1, .f32⟩
  | 123 => ⟨S_, .f32⟩
  | 124 => ⟨S_, .f32⟩
  | 125 => ⟨S_, .f32⟩
  | 126 => ⟨S_, .f32⟩
  | 127 => ⟨S_, .f32⟩
  | _ => ⟨S32x8400x80, .f32⟩

abbrev hbmTy0_1 (i : Nat) : BufTy := match i % 128 with
  | 0 => ⟨S_, .f32⟩
  | 1 => ⟨S_, .f32⟩
  | 2 => ⟨S_, .f32⟩
  | _ => ⟨S32x8400x80, .f32⟩

abbrev hbmTy (i : Nat) : BufTy := match i / 128 with
  | 0 => hbmTy0_0 i
  | 1 => hbmTy0_1 i
  | _ => ⟨S32x8400x80, .f32⟩

abbrev bufTy : (tb : Table) → Fin (tcTables nBuf tb) → BufTy
  | .hbm, ⟨i, _⟩ => hbmTy i
  | _, _ => ⟨S32x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_cst_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_call4_v0 : Ref sig .tc := ⟨.hbm, 84, rfl⟩
abbrev main_call4_v1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_v85 : Ref sig .tc := ⟨.hbm, 125, rfl⟩
abbrev main_cst_15 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]
-- ==== Proof.Terms.lean ====
/-
  The terms of the detection loss, as extended reals: the box loss of one predicted and one target box, the foreground
  weight, and the kernel's classification term of one score. The kernel's blocks and the reference's arrays are both
  read into these.
-/
module

public import Idealize.ShloMosaic.Lib.Pointwise

@[expose] public section

noncomputable section

open Idealize.ShloMosaic

namespace Cert.Loss

/-- The small number added to the denominators of the box loss. -/
def eps : EReal := Ideal.ofBits .f32 0x2EDBE6FF#32

/-- The area that the boxes `(p0, p1)–(p2, p3)` and `(q0, q1)–(q2, q3)` share. -/
def overlap (p0 p1 p2 p3 q0 q1 q2 q3 : EReal) : EReal :=
  max 0 (min p2 q2 - max p0 q0) * max 0 (min p3 q3 - max p1 q1)

/-- The area that the two boxes cover together, plus `eps`. -/
def union (p0 p1 p2 p3 q0 q1 q2 q3 : EReal) : EReal :=
  (p2 - p0) * (p3 - p1) + (q2 - q0) * (q3 - q1) - overlap p0 p1 p2 p3 q0 q1 q2 q3 + eps

/-- The area of the smallest box around both, plus `eps`. -/
def hull (p0 p1 p2 p3 q0 q1 q2 q3 : EReal) : EReal :=
  (max p2 q2 - min p0 q0) * (max p3 q3 - min p1 q1) + eps

/-- The box loss: one minus the generalized intersection over union. -/
def boxLoss (p0 p1 p2 p3 q0 q1 q2 q3 : EReal) : EReal :=
  1 - (Ideal.div (overlap p0 p1 p2 p3 q0 q1 q2 q3) (union p0 p1 p2 p3 q0 q1 q2 q3)
    - Ideal.div (hull p0 p1 p2 p3 q0 q1 q2 q3 - union p0 p1 p2 p3 q0 q1 q2 q3) (hull p0 p1 p2 p3 q0 q1 q2 q3))

/-- The kernel's foreground weight: one where the label is not the background label 80, zero where it is. -/
def foreground (lab : EReal) : EReal :=
  FloatOps.sitofp (F := Ideal) .f32 (BitVec.setWidth 32 (BitVec.ofBool (decide (lab ≠ Ideal.ofBits .f32 0x42A00000#32))))

/-- The kernel's classification term of the score `x` and the target `t` of class `c`, under the label `lab`; the loss
    takes its negative. -/
def clsTerm (x t lab : EReal) (c : Nat) : EReal :=
  (t * (Ideal.log x - Ideal.log (1 - x)) + Ideal.log (1 - x))
    * Scalar.select (IntOp.cmpi .eq (BitVec.ofNat 32 c) (FloatOps.fptosi (F := Ideal) (φ := .f32) 32 lab)) t
        (Ideal.ofBits .f32 0x3F400000#32 * x * x)

/-- The reference's classification loss of the score `x` and the target `t` of class `c`, under the label word `w`: the
    cross entropy at the clipped score, times its weight. -/
def clsRef (x t : EReal) (w : BitVec 32) (c : Nat) : EReal :=
  let p := min (Ideal.ofBits .f32 0x3F800000#32) (max (Ideal.ofBits .f32 0x2B8CBCCC#32) x)
  let h := FloatOps.uitofp (F := Ideal) .f32 (IntOp.cmpi .eq w (BitVec.ofNat 32 c))
  (-(t * Ideal.log p + (1 - t) * Ideal.log (1 - p)))
    * (Ideal.ofBits .f32 0x3F400000#32 * Ideal.pow x (Ideal.ofBits .f32 0x40000000#32) * (1 - h) + t * h)

/-- The word of minus one. -/
theorem ofBits_neg_one : Ideal.ofBits .f32 0xBF800000#32 = -1 := by
  simp [Ideal.ofBits, Ideal.ieee, -EReal.coe_mul]; norm_num

/-- A left or upper edge: the anchor's coordinate plus minus one times the distance is their difference. -/
theorem edge_sub (a d : EReal) : a + Ideal.ofBits .f32 0xBF800000#32 * d = a - d := by
  rw [ofBits_neg_one, neg_one_mul, sub_eq_add_neg]

/-- The sign column of the four box edges: minus one for the first two, one for the others. -/
theorem edge_0 {α : Type} (x y : α) : Scalar.select (IntOp.cmpi .slt 0#32 2#32) x y = x := rfl
theorem edge_1 {α : Type} (x y : α) : Scalar.select (IntOp.cmpi .slt 1#32 2#32) x y = x := rfl
theorem edge_2 {α : Type} (x y : α) : Scalar.select (IntOp.cmpi .slt 2#32 2#32) x y = y := rfl
theorem edge_3 {α : Type} (x y : α) : Scalar.select (IntOp.cmpi .slt 3#32 2#32) x y = y := rfl

/-- A row number is not negative as a word, so the kernel's row of ones holds one. -/
theorem one_of_row (k : Fin 320) : FloatOps.sitofp (F := Ideal) .f32
    (BitVec.setWidth 32 (IntOp.cmpi .sge (BitVec.ofNat 32 k.val) 0#32)) = 1 := by
  have h : IntOp.cmpi .sge (BitVec.ofNat 32 k.val) 0#32 = 1#1 := by
    revert k; decide +kernel
  rw [h]
  show ((((BitVec.setWidth 32 (1#1)).toInt : ℝ)) : EReal) = 1
  norm_num

end Cert.Loss
-- ==== Proof.PointRows.lean ====
/-
  What one grid point leaves in the three accumulator rows, read at an anchor: row 0 gains the classification terms of
  the point's four images, row 1 their weighted box losses, row 2 their target scores.
-/
module

public import proofs.«01_k».proof.Proof.Terms
public import proofs.«01_k».proof.Proof.Gen.KernelIdeal.Frame
public import Idealize.ShloMosaic.Lib.WritesUnit
public import Idealize.ShloMosaic.Lib.Pipeline.Value
public import Idealize.ShloMosaic.Lib.Pipeline.ReadBack
public import Idealize.ShloMosaic.Lib.Pipeline.ValueKit.Acc
public import Idealize.ShloMosaic.Lib.Tactic

@[expose] public section

noncomputable section

open Idealize.ShloMosaic Idealize.ShloMosaic.TcCoe Idealize.SL.Sem

namespace Cert.KernelIdeal.Rows

open Cert.Loss Cert.KernelIdeal Cert.KernelIdeal.Gen

section Terms

variable (x0 x1 : Vec Ideal S4x80x8400 .f32) (x2 x3 x4 : Vec Ideal S4x4x8400 .f32) (x5 : Vec Ideal S8x8400 .f32)

/-- Image `i`'s classification terms at anchor `l`, summed over the classes. -/
def clsRow (i : Fin 4) (l : Fin 8400) : EReal :=
  ∑ k : Fin 80, clsTerm (x0 (ix3 i k l)) (x1 (ix3 i k l)) (x4 (ix3 i 0 l)) k.val

/-- Image `i`'s box loss at anchor `l`, weighted by the foreground and by the sum of the targets. -/
def boxRow (i : Fin 4) (l : Fin 8400) : EReal :=
  boxLoss (x5 (ix2 0 l) - x2 (ix3 i 0 l)) (x5 (ix2 1 l) - x2 (ix3 i 1 l)) (x5 (ix2 2 l) + x2 (ix3 i 2 l))
      (x5 (ix2 3 l) + x2 (ix3 i 3 l)) (x3 (ix3 i 0 l)) (x3 (ix3 i 1 l)) (x3 (ix3 i 2 l)) (x3 (ix3 i 3 l))
    * foreground (x4 (ix3 i 0 l)) * ∑ k : Fin 80, x1 (ix3 i k l)

/-- Image `i`'s target scores at anchor `l`, summed over the classes. -/
def tgtRow (i : Fin 4) (l : Fin 8400) : EReal := ∑ k : Fin 80, x1 (ix3 i k l)

/-- What a point adds to row `r` at anchor `l`: over its four images. -/
def gain (r : Fin 3) (l : Fin 8400) : EReal :=
  match r with
  | 0 => ∑ i : Fin 4, clsRow x0 x1 x4 i l
  | 1 => ∑ i : Fin 4, boxRow x1 x2 x3 x4 x5 i l
  | 2 => ∑ i : Fin 4, tgtRow x1 i l

/-- The kernel's sum over 320 rows, four images of 80 classes, image by image. -/
theorem sum_images (f : Fin 4 → Fin 80 → EReal) :
    ∑ k : Fin 320, f ⟨k.val / 80, by omega⟩ ⟨k.val % 80, by omega⟩ = ∑ i : Fin 4, ∑ c : Fin 80, f i c :=
  Fin.sum_divmod_fin 80 f rfl

end Terms

section Point

variable (c : Dev nD) (i : grid0.Coords) (arg1 : Memref sig .tc .vmem S4x80x8400 .f32) (harg1 : arg1.IsWhole) (arg2 : Memref sig .tc .vmem S4x80x8400 .f32) (harg2 : arg2.IsWhole) (arg3 : Memref sig .tc .vmem S4x4x8400 .f32) (harg3 : arg3.IsWhole) (arg4 : Memref sig .tc .vmem S4x4x8400 .f32) (harg4 : arg4.IsWhole) (arg5 : Memref sig .tc .vmem S4x4x8400 .f32) (harg5 : arg5.IsWhole) (arg6 : Memref sig .tc .vmem S8x8400 .f32) (harg6 : arg6.IsWhole) (arg7 : Memref sig .tc .vmem S8x8400 .f32) (harg7 : arg7.IsWhole)
variable (x0 x1 : Vec Ideal S4x80x8400 .f32) (x2 x3 x4 : Vec Ideal S4x4x8400 .f32) (x5 xo : Vec Ideal S8x8400 .f32) (l : Fin 8400)

/-- Row `r` of the accumulator block. -/
abbrev row (r : Fin 3) : Fin 8 := ⟨r.val, by omega⟩

/-- Three stores, of rows 2, 1 and 0 (the newest first), read back at one of these rows: the row's own store. -/
theorem read_rows (v : View sig .tc .vmem S8x8400 .f32) (f : v.ty.Contents (Elt Ideal))
    (w2 w1 w0 : S1x8400.Idx → EReal) (L : List (View.Piece (Elt Ideal) S8x8400 .f32)) (r : Fin 3) :
    v.read (Elt Ideal) (v.writes (Elt Ideal) f
      (⟨Rect.unit ![2, 0] S1x8400.size inb_S8x8400_S1x8400_2_0, w2⟩
        :: ⟨Rect.unit ![1, 0] S1x8400.size inb_S8x8400_S1x8400_1_0, w1⟩
        :: ⟨Rect.unit ![0, 0] S1x8400.size inb_S8x8400_S1x8400_0_0, w0⟩ :: L)) (ix2 (row r) l)
      = (match r with | 0 => w0 | 1 => w1 | 2 => w2) (ix2 0 l) := by
  match r with
  | 0 =>
    rw [View.read_writes_cons_rows_of_not_mem (d := ![8, 8400]) v f (size := S1x8400.size) _ w2 _ (o := 2) (W := 1) (ix2 (row 0) l) rfl rfl (.inl Nat.zero_lt_two),
      View.read_writes_cons_rows_of_not_mem (d := ![8, 8400]) v f (size := S1x8400.size) _ w1 _ (o := 1) (W := 1) (ix2 (row 0) l) rfl rfl (.inl Nat.zero_lt_one)]
    exact View.read_writes_cons_rows_of_mem (d := ![8, 8400]) v f (size := S1x8400.size) _ w0 _ (o := 0) (ix2 (row 0) l) (ix2 (0 : Fin 1) l) rfl rfl rfl
  | 1 =>
    rw [View.read_writes_cons_rows_of_not_mem (d := ![8, 8400]) v f (size := S1x8400.size) _ w2 _ (o := 2) (W := 1) (ix2 (row 1) l) rfl rfl (.inl Nat.one_lt_two)]
    exact View.read_writes_cons_rows_of_mem (d := ![8, 8400]) v f (size := S1x8400.size) _ w1 _ (o := 1) (ix2 (row 1) l) (ix2 (0 : Fin 1) l) rfl rfl rfl
  | 2 => exact View.read_writes_cons_rows_of_mem (d := ![8, 8400]) v f (size := S1x8400.size) _ w2 _ (o := 2) (ix2 (row 2) l) (ix2 (0 : Fin 1) l) rfl rfl rfl

/-- A later point adds its gain to what the point before left. -/
theorem out_B (hc0 : ¬cond0_0 i) (r : Fin 3) :
    out0_B_6 c i arg1 harg1 arg2 harg2 arg3 harg3 arg4 harg4 arg5 harg5 arg6 harg6 arg7 harg7 hc0 x0 x1 x2 x3 x4 x5 xo (ix2 (row r) l)
      = xo (ix2 (row r) l) + gain x0 x1 x2 x3 x4 x5 r l := by
  unfold out0_B_6 kernelRun0_B
  dsimp only
  sl_unfold_words
  refine (read_rows _ _ _ _ _ _ _ r).trans ?_
  match r with
  | 0 =>
    dsimp only
    unfold_payloads
    simp only [View.readAt_eq_ld, harg1.read_unread, harg2.read_unread, harg3.read_unread, harg4.read_unread, harg5.read_unread, harg6.read_unread, harg7.read_unread]
    pointwise [one_of_row]
    exact congrArg (xo (ix2 0 l) + ·) (sum_images fun i k => clsTerm (x0 (ix3 i k l)) (x1 (ix3 i k l)) (x4 (ix3 i 0 l)) k.val)
  | 1 =>
    dsimp only
    unfold_payloads
    simp only [View.readAt_eq_ld, harg1.read_unread, harg2.read_unread, harg3.read_unread, harg4.read_unread, harg5.read_unread, harg6.read_unread, harg7.read_unread]
    pointwise [edge_0, edge_1, edge_2, edge_3, edge_sub]
    simp only [gain, Fin.sum_univ_four]
    rfl
  | 2 =>
    dsimp only
    unfold_payloads
    simp only [View.readAt_eq_ld, harg1.read_unread, harg2.read_unread, harg3.read_unread, harg4.read_unread, harg5.read_unread, harg6.read_unread, harg7.read_unread]
    pointwise
    simp only [gain, Fin.sum_univ_four]
    rfl

/-- The first point clears the rows and leaves its gain. -/
theorem out_A (hc0 : cond0_0 i) (r : Fin 3) :
    out0_A_6 c i arg1 harg1 arg2 harg2 arg3 harg3 arg4 harg4 arg5 harg5 arg6 harg6 arg7 harg7 hc0 x0 x1 x2 x3 x4 x5 (ix2 (row r) l)
      = gain x0 x1 x2 x3 x4 x5 r l := by
  unfold out0_A_6 kernelRun0_A
  dsimp only
  sl_unfold_words
  refine (read_rows _ _ _ _ _ _ _ r).trans ?_
  simp (discharger := first | rfl | decide) only [↓View.readCov_skip, ↓View.readCov_fill]
  match r with
  | 0 =>
    dsimp only
    unfold_payloads
    simp only [View.readAt_eq_ld, harg1.read_unread, harg2.read_unread, harg3.read_unread, harg4.read_unread, harg5.read_unread, harg6.read_unread, harg7.read_unread]
    pointwise [one_of_row]
    exact sum_images fun i k => clsTerm (x0 (ix3 i k l)) (x1 (ix3 i k l)) (x4 (ix3 i 0 l)) k.val
  | 1 =>
    dsimp only
    unfold_payloads
    simp only [View.readAt_eq_ld, harg1.read_unread, harg2.read_unread, harg3.read_unread, harg4.read_unread, harg5.read_unread, harg6.read_unread, harg7.read_unread]
    pointwise [edge_0, edge_1, edge_2, edge_3, edge_sub]
    simp only [gain, Fin.sum_univ_four]
    rfl
  | 2 =>
    dsimp only
    unfold_payloads
    simp only [View.readAt_eq_ld, harg1.read_unread, harg2.read_unread, harg3.read_unread, harg4.read_unread, harg5.read_unread, harg6.read_unread, harg7.read_unread]
    pointwise
    simp only [gain, Fin.sum_univ_four]
    rfl

end Point

end Cert.KernelIdeal.Rows
-- ==== Proof.Fold.lean ====
/-
  The accumulator over the grid: after the last point each row holds the sum of the points' gains, and the result array
  is what the last point left.
-/
module

public import proofs.«01_k».proof.Proof.PointRows
public import Idealize.ShloMosaic.Lib.Pipeline.ValueKit.Geometry

@[expose] public section

noncomputable section

open Idealize.ShloMosaic Idealize.ShloMosaic.TcCoe Idealize.SL.Sem

namespace Cert.KernelIdeal.Rows

open Cert.Loss Cert.KernelIdeal Cert.KernelIdeal.Gen

variable (m : (ℓ : Loc nD τ sig) → Buf (Elt Ideal) ℓ)

/-- What point `t` adds to row `r` at anchor `l`, of its fetched blocks. -/
def gainAt (c : Dev nD) (t : Fin cfg0.N) (r : Fin 3) (l : Fin 8400) : EReal :=
  gain (iblk m c 0 t) (iblk m c 1 t) (iblk m c 2 t) (iblk m c 3 t) (iblk m c 4 t) (iblk m c 5 t) r l

/-- After the last point a row holds the sum of all points' gains. -/
theorem rows_last (c : Dev nD) (t : Fin cfg0.N) (ht : t.val + 1 = cfg0.N) (r : Fin 3) (l : Fin 8400) :
    outsAt0 m c t.val t.isLt (ix2 (row r) l) = ∑ p : Fin cfg0.N, gainAt m c p r l := by
  have hN : cfg0.N = 8 := N_0
  have := Pipeline.eq_sum_fin_of_reset_step_apply_last (N := cfg0.N) (M := EReal) (ι := Fin 3 × Fin 8400)
    (fun n hn j => outsAt0 m c n hn (ix2 (row j.1) j.2)) 8 (fun _ => 0) (fun p j => gainAt m c p j.1 j.2)
    (fun p hp j => by
      rw [outsAt0_A m c p hp, out_A, zero_add]; rfl)
    (fun p hp j => by
      rw [outsAt0_B m c p hp, out_B]; rfl)
    (by omega) t ht (r, l)
  dsimp only at this
  rwa [zero_add] at this

/-- The result array after the run, at a row and an anchor. -/
theorem final_rows (c : Dev nD) (r : Fin 3) (l : Fin 8400) :
    ((dats m 0 c).arrAt 6 cfg0.N : Vec Ideal S8x8400 .f32) (ix2 (row r) l) = ∑ p : Fin cfg0.N, gainAt m c p r l := by
  have h := (dats m 0 c).arrAt_emb_eq_after_last 6 t0_7 (by decide +kernel) (ix2 (row r) l)
  rw [after0_6] at h
  have e := rows_last m c t0_7 N_0.symm r l
  generalize outsAt0 m c t0_7.val t0_7.isLt = o at h e
  exact h.trans e

end Cert.KernelIdeal.Rows
-- ==== Proof.Blocks.lean ====
/-
  The blocks a grid point fetches, read at an index: entries of the kernel's arguments. Point `t` holds the images
  `4 t … 4 t + 3`, with the anchors as lanes.
-/
module

public import proofs.«01_k».proof.Proof.Fold
public import Idealize.ShloMosaic.Lib.Pipeline.ValueKit.Point
public import Idealize.ShloMosaic.Lib.StableHlo.RunRead
public import Idealize.ShloMosaic.Lib.Claim

@[expose] public section

noncomputable section

open Idealize.ShloMosaic Idealize.ShloMosaic.TcCoe Idealize.SL.Sem

namespace Cert.KernelIdeal.Rows

open Cert.Loss Cert.KernelIdeal Cert.KernelIdeal.Gen

variable (m : (ℓ : Loc nD τ sig) → Buf (Elt Ideal) ℓ)

/-- The image that is the `i`-th of point `t`. -/
abbrev img (t : Fin cfg0.N) (i : Fin 4) : Fin 32 :=
  ⟨t.val * 4 + i.val, by have : t.val < 8 := lt_of_lt_of_eq t.isLt N_0; omega⟩

/-- The block indices of the six input windows: the point's number along the images. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] :=
  (by decide +kernel : ∀ t : Fin grid0.N, _)

variable (c : Dev nD) (t : Fin cfg0.N) (i : Fin 4) (l : Fin 8400)

/-- The scores, images by classes by anchors. -/
theorem V_scores : V m c main_v0 = (transpose S32x80x8400 [0, 2, 1] (m ((c : Thread nD τ).loc main_arg0))
    transposes_S32x8400x80_S32x80x8400_0_2_1 : Vec Ideal S32x80x8400 .f32) := by
  simp only [V, V0, List.flatten_cons, List.flatten_nil, List.append_nil, List.cons_append, List.nil_append]
  after_reads_simp

theorem block_scores (k : Fin 80) : iblk m c 0 t (ix3 i k l) = m ((c : Thread nD τ).loc main_arg0) (ix3 (img t i) l k) := by
  blk_simp [iblk]
  rw [V_scores]
  pointwise
  blk_ext [idx t]

/-- The targets, images by classes by anchors. -/
theorem V_targets : V m c main_v1 = (transpose S32x80x8400 [0, 2, 1] (m ((c : Thread nD τ).loc main_arg4))
    transposes_S32x8400x80_S32x80x8400_0_2_1 : Vec Ideal S32x80x8400 .f32) := by
  simp only [V, V0, List.flatten_cons, List.flatten_nil, List.append_nil, List.cons_append, List.nil_append]
  after_reads_simp

theorem block_targets (k : Fin 80) : iblk m c 1 t (ix3 i k l) = m ((c : Thread nD τ).loc main_arg4) (ix3 (img t i) l k) := by
  blk_simp [iblk]
  rw [V_targets]
  pointwise
  blk_ext [idx t]

/-- The box distances, images by edges by anchors. -/
theorem V_distances : V m c main_v2 = (transpose S32x4x8400 [0, 2, 1] (m ((c : Thread nD τ).loc main_arg1))
    transposes_S32x8400x4_S32x4x8400_0_2_1 : Vec Ideal S32x4x8400 .f32) := by
  simp only [V, V0, List.flatten_cons, List.flatten_nil, List.append_nil, List.cons_append, List.nil_append]
  after_reads_simp

theorem block_distances (k : Fin 4) : iblk m c 2 t (ix3 i k l) = m ((c : Thread nD τ).loc main_arg1) (ix3 (img t i) l k) := by
  blk_simp [iblk]
  rw [V_distances]
  pointwise
  blk_ext [idx t]

/-- The target boxes, images by edges by anchors. -/
theorem V_boxes : V m c main_v3 = (transpose S32x4x8400 [0, 2, 1] (m ((c : Thread nD τ).loc main_arg3))
    transposes_S32x8400x4_S32x4x8400_0_2_1 : Vec Ideal S32x4x8400 .f32) := by
  simp only [V, V0, List.flatten_cons, List.flatten_nil, List.append_nil, List.cons_append, List.nil_append]
  after_reads_simp

theorem block_boxes (k : Fin 4) : iblk m c 3 t (ix3 i k l) = m ((c : Thread nD τ).loc main_arg3) (ix3 (img t i) l k) := by
  blk_simp [iblk]
  rw [V_boxes]
  pointwise
  blk_ext [idx t]

/-- The label of an anchor as the kernel reads it: the label where the anchor is foreground, 80 where it is not. -/
def labelWord (b : Fin 32) (l : Fin 8400) : BitVec 32 :=
  Scalar.select (m ((c : Thread nD τ).loc main_arg6) (ix2 b l)) (m ((c : Thread nD τ).loc main_arg5) (ix2 b l)) 80#32

/-- The first label row, images by anchors. -/
theorem V_labels (b : Fin 32) : V m c main_v8 (ix3 b 0 l) = FloatOps.sitofp (F := Ideal) .f32 (labelWord m c b l) := by
  simp only [V, V0, List.flatten_cons, List.flatten_nil, List.append_nil, List.cons_append, List.nil_append]
  after_reads_simp
  pointwise
  rfl

theorem block_labels : iblk m c 4 t (ix3 i 0 l) = FloatOps.sitofp (F := Ideal) .f32 (labelWord m c (img t i) l) := by
  rw [← V_labels m c l (img t i)]
  blk_simp [iblk]
  blk_ext [idx t]

/-- The anchors' rows: the two coordinates, twice. -/
theorem V_anchors (k : Fin 4) : V m c main_v11 (ix2 ⟨k.val, by omega⟩ l)
    = m ((c : Thread nD τ).loc main_arg2) (ix2 l ⟨k.val % 2, by omega⟩) := by
  simp only [V, V0, List.flatten_cons, List.flatten_nil, List.append_nil, List.cons_append, List.nil_append]
  after_reads_simp
  fin_cases k
  all_goals
    pointwise
    after_reads_simp
    pointwise

theorem block_anchors (k : Fin 4) : iblk m c 5 t (ix2 ⟨k.val, by omega⟩ l)
    = m ((c : Thread nD τ).loc main_arg2) (ix2 l ⟨k.val % 2, by omega⟩) := by
  rw [← V_anchors m c l k]
  blk_simp [iblk]
  blk_ext [idx t]

end Cert.KernelIdeal.Rows
-- ==== Proof.Tail.lean ====
/-
  The kernel's result: the three row sums of the output array, combined by the lines after the launch.
-/
module

public import proofs.«01_k».proof.Proof.Blocks

@[expose] public section

noncomputable section

open Idealize.ShloMosaic Idealize.ShloMosaic.TcCoe Idealize.SL.Sem

namespace Cert.KernelIdeal.Rows

open Cert.Loss Cert.KernelIdeal Cert.KernelIdeal.Gen

variable (m : (ℓ : Loc nD τ sig) → Buf (Elt Ideal) ℓ)

/-- The lines after the launch, from the array the launch leaves. -/
theorem tail_value (c : Dev nD) (X : Vec Ideal S8x8400 .f32)
    (h : ((dats m 0 c).arrAt 6 cfg0.N : Vec Ideal S8x8400 .f32) = X) :
    (Pipeline.afterTail₀ cfgs (dats m) 0 (V0 m) [hostOps1] c main_v25 : Vec Ideal S_ .f32) ix0
      = Ideal.div (-(∑ l : Fin 8400, X (ix2 0 l)) + Ideal.ofBits .f32 0x40200000#32 * ∑ l : Fin 8400, X (ix2 1 l))
          (∑ l : Fin 8400, X (ix2 2 l)) := by
  simp only [Pipeline.afterTail₀, List.flatten_cons, List.flatten_nil, List.append_nil]
  after_reads_simp
  have e : (Pipeline.withArrays (cfgs 0).spec c (V0 m c) (fun w => (dats m 0 c).arrAt w (cfgs 0).N)
      (Proc.tc.devRef main_v12) : Vec Ideal S8x8400 .f32) = X :=
    (Pipeline.withArrays_arr spec0 winFacts0.arr_inj c (V0 m c) _ (6 : Fin 7)).trans h
  rw [e]
  dsimp only [main_v14, main_v18, main_v21]
  pointwise

end Cert.KernelIdeal.Rows
-- ==== Proof.Result.lean ====
/-
  The kernel's result from its arguments: the point's images and the grid's points together run over all images.
-/
module

public import proofs.«01_k».proof.Proof.Tail

@[expose] public section

noncomputable section

open Idealize.ShloMosaic Idealize.ShloMosaic.TcCoe Idealize.SL.Sem

namespace Cert.KernelIdeal.Rows

open Cert.Loss Cert.KernelIdeal Cert.KernelIdeal.Gen

variable (m : (ℓ : Loc nD τ sig) → Buf (Elt Ideal) ℓ)

/-- Over the anchors, the points and a point's images is over the images and the anchors. -/
theorem sum_all_images (f : Fin 32 → Fin 8400 → EReal) :
    ∑ l : Fin 8400, ∑ t : Fin cfg0.N, ∑ i : Fin 4, f (img t i) l = ∑ b : Fin 32, ∑ l : Fin 8400, f b l := by
  rw [Finset.sum_comm, ← Fin.sum_mul_add_fin 8 4 (fun b => ∑ l : Fin 8400, f b l)]
  refine Finset.sum_congr rfl fun t _ => ?_
  rw [Finset.sum_comm]

variable (c : Dev nD)

/-- The argument arrays. -/
abbrev scores : Vec Ideal S32x8400x80 .f32 := m ((c : Thread nD τ).loc main_arg0)
abbrev distances : Vec Ideal S32x8400x4 .f32 := m ((c : Thread nD τ).loc main_arg1)
abbrev anchors : Vec Ideal S8400x2 .f32 := m ((c : Thread nD τ).loc main_arg2)
abbrev boxes : Vec Ideal S32x8400x4 .f32 := m ((c : Thread nD τ).loc main_arg3)
abbrev targets : Vec Ideal S32x8400x80 .f32 := m ((c : Thread nD τ).loc main_arg4)

/-- The label of an anchor as the kernel's number. -/
abbrev label (b : Fin 32) (l : Fin 8400) : EReal := FloatOps.sitofp (F := Ideal) .f32 (labelWord m c b l)

/-- The box loss of an anchor. -/
def anchorLoss (b : Fin 32) (l : Fin 8400) : EReal :=
  boxLoss (anchors m c (ix2 l 0) - distances m c (ix3 b l 0)) (anchors m c (ix2 l 1) - distances m c (ix3 b l 1))
    (anchors m c (ix2 l 0) + distances m c (ix3 b l 2)) (anchors m c (ix2 l 1) + distances m c (ix3 b l 3))
    (boxes m c (ix3 b l 0)) (boxes m c (ix3 b l 1)) (boxes m c (ix3 b l 2)) (boxes m c (ix3 b l 3))

/-- The box term of a point's image. -/
theorem box_image (t : Fin cfg0.N) (i : Fin 4) (l : Fin 8400) :
    boxRow (iblk m c 1 t) (iblk m c 2 t) (iblk m c 3 t) (iblk m c 4 t) (iblk m c 5 t) i l
      = anchorLoss m c (img t i) l * foreground (label m c (img t i) l) * ∑ k : Fin 80, targets m c (ix3 (img t i) l k) := by
  have a0 : iblk m c 5 t (ix2 0 l) = anchors m c (ix2 l 0) := block_anchors m c t l 0
  have a1 : iblk m c 5 t (ix2 1 l) = anchors m c (ix2 l 1) := block_anchors m c t l 1
  have a2 : iblk m c 5 t (ix2 2 l) = anchors m c (ix2 l 0) := block_anchors m c t l 2
  have a3 : iblk m c 5 t (ix2 3 l) = anchors m c (ix2 l 1) := block_anchors m c t l 3
  simp only [boxRow, anchorLoss, a0, a1, a2, a3, block_targets, block_distances, block_boxes, block_labels]

/-- The sums of the three rows. -/
theorem cls_total : ∑ l : Fin 8400, ∑ t : Fin cfg0.N, gainAt m c t 0 l
    = ∑ b : Fin 32, ∑ l : Fin 8400, ∑ k : Fin 80, clsTerm (scores m c (ix3 b l k)) (targets m c (ix3 b l k)) (label m c b l) k.val := by
  rw [← sum_all_images]
  simp only [gainAt, gain, clsRow, block_scores, block_targets, block_labels]

theorem box_total : ∑ l : Fin 8400, ∑ t : Fin cfg0.N, gainAt m c t 1 l
    = ∑ b : Fin 32, ∑ l : Fin 8400, anchorLoss m c b l * foreground (label m c b l) * ∑ k : Fin 80, targets m c (ix3 b l k) := by
  rw [← sum_all_images]
  simp only [gainAt, gain, box_image]

theorem tgt_total : ∑ l : Fin 8400, ∑ t : Fin cfg0.N, gainAt m c t 2 l
    = ∑ b : Fin 32, ∑ l : Fin 8400, ∑ k : Fin 80, targets m c (ix3 b l k) := by
  rw [← sum_all_images]
  simp only [gainAt, gain, tgtRow, block_targets]

/-- The kernel's result. -/
theorem result : (Pipeline.afterTail₀ cfgs (dats m) 0 (V0 m) [hostOps1] c main_v25 : Vec Ideal S_ .f32) ix0
    = Ideal.div
        (-(∑ b : Fin 32, ∑ l : Fin 8400, ∑ k : Fin 80,
            clsTerm (scores m c (ix3 b l k)) (targets m c (ix3 b l k)) (label m c b l) k.val)
          + Ideal.ofBits .f32 0x40200000#32
            * ∑ b : Fin 32, ∑ l : Fin 8400, anchorLoss m c b l * foreground (label m c b l) * ∑ k : Fin 80, targets m c (ix3 b l k))
        (∑ b : Fin 32, ∑ l : Fin 8400, ∑ k : Fin 80, targets m c (ix3 b l k)) := by
  rw [tail_value m c _ rfl, ← cls_total, ← box_total, ← tgt_total]
  simp only [← final_rows]
  rfl

end Cert.KernelIdeal.Rows
-- ==== Proof.RefTerms.lean ====
/-
  The reference's stages read at an index: the edges of the predicted boxes, the box loss of an anchor, the
  classification term of a score, and the result from the three sums.
-/
module

public import proofs.«01_k».proof.Proof.Terms
public import proofs.«01_k».proof.Proof.Gen.ReferenceIdeal.Read
public import Idealize.ShloMosaic.Lib.IdealHost

@[expose] public section

noncomputable section

open Idealize.ShloMosaic Idealize.ShloMosaic.TcCoe Idealize.SL.Sem

namespace Cert.ReferenceIdeal.Terms

open Cert.Loss Cert.ReferenceIdeal Cert.ReferenceIdeal.Gen Cert.ReferenceIdeal.Read

variable (x0 x4 : Vec Ideal S32x8400x80 .f32) (x1 x3 : Vec Ideal S32x8400x4 .f32) (x2 : Vec Ideal S8400x2 .f32)
  (x5 : IVec S32x8400 32) (x6 : IVec S32x8400 1) (b : Fin 32) (l : Fin 8400) (k : Fin 80)

/-- A function of two boxes at the predicted and the target box of an anchor. -/
def atBoxes (f : EReal → EReal → EReal → EReal → EReal → EReal → EReal → EReal → EReal) : EReal :=
  f (val_main_v8 (F := Ideal) x1 x2 (ix3 b l 0)) (val_main_v8 (F := Ideal) x1 x2 (ix3 b l 1))
    (val_main_v8 (F := Ideal) x1 x2 (ix3 b l 2)) (val_main_v8 (F := Ideal) x1 x2 (ix3 b l 3))
    (x3 (ix3 b l 0)) (x3 (ix3 b l 1)) (x3 (ix3 b l 2)) (x3 (ix3 b l 3))

/-- The four edges of the predicted box. -/
theorem edges : val_main_v8 (F := Ideal) x1 x2 (ix3 b l 0) = x2 (ix2 l 0) - x1 (ix3 b l 0)
    ∧ val_main_v8 (F := Ideal) x1 x2 (ix3 b l 1) = x2 (ix2 l 1) - x1 (ix3 b l 1)
    ∧ val_main_v8 (F := Ideal) x1 x2 (ix3 b l 2) = x2 (ix2 l 0) + x1 (ix3 b l 2)
    ∧ val_main_v8 (F := Ideal) x1 x2 (ix3 b l 3) = x2 (ix2 l 1) + x1 (ix3 b l 3) := by
  refine ⟨?_, ?_, ?_, ?_⟩
  all_goals
    pointwise [val_main_v8, val_main_v7, val_main_v6, val_main_v5, val_main_v4, val_main_v3, val_main_v2, val_main_v1, val_main_v0]

/-- The area that the predicted and the target box share. -/
theorem shared : val_main_v52 (F := Ideal) x1 x2 x3 (ix3 b l 0)
    = atBoxes x1 x3 x2 b l overlap := by
  pointwise [atBoxes, overlap, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_cst_8, val_main_cst_9, val_main_call3_v0, val_main_call3_v1, val_main_call4_v0, val_main_call4_v1]
  simp only [id_eq]
  pointwise

/-- The area that the two boxes cover together. -/
theorem covered : val_main_v62 (F := Ideal) x1 x2 x3 (ix3 b l 0)
    = atBoxes x1 x3 x2 b l union := by
  have h := shared x1 x3 x2 b l
  simp only [atBoxes, union] at h ⊢
  rw [← h]
  pointwise [eps, val_main_v62, val_main_v61, val_main_v60, val_main_v59, val_main_v58, val_main_v57, val_main_v56, val_main_v55,
    val_main_v54, val_main_v53, val_main_v43, val_main_v42, val_main_v41, val_main_v40, val_main_v39, val_main_v38, val_main_v37,
    val_main_v36, val_main_cst_10]

/-- The area of the smallest box around both. -/
theorem around : val_main_v72 (F := Ideal) x1 x2 x3 (ix3 b l 0)
    = atBoxes x1 x3 x2 b l hull := by
  pointwise [atBoxes, hull, eps, val_main_v72, val_main_v71, val_main_v70, val_main_v69, val_main_v68, val_main_v67, val_main_v66,
    val_main_v65, val_main_v64, val_main_v43, val_main_v42, val_main_v41, val_main_v40, val_main_v39, val_main_v38, val_main_v37,
    val_main_v36, val_main_cst_11]

/-- The box loss of an anchor. -/
theorem box : val_main_v81 (F := Ideal) x1 x2 x3 (ix3 b l 0)
    = boxLoss (x2 (ix2 l 0) - x1 (ix3 b l 0)) (x2 (ix2 l 1) - x1 (ix3 b l 1)) (x2 (ix2 l 0) + x1 (ix3 b l 2)) (x2 (ix2 l 1) + x1 (ix3 b l 3))
        (x3 (ix3 b l 0)) (x3 (ix3 b l 1)) (x3 (ix3 b l 2)) (x3 (ix3 b l 3)) := by
  obtain ⟨e0, e1, e2, e3⟩ := edges x1 x2 b l
  have h := shared x1 x3 x2 b l
  have u := covered x1 x3 x2 b l
  have w := around x1 x3 x2 b l
  simp only [atBoxes, e0, e1, e2, e3] at h u w
  rw [boxLoss, ← h, ← u, ← w]
  pointwise [val_main_v81, val_main_v80, val_main_v75, val_main_v74, val_main_v73, val_main_v63, val_main_cst_13]

/-- The weighted box loss of an anchor. -/
theorem box_weighted : val_main_v83 (F := Ideal) x1 x2 x3 x4 x6 (ix3 b l 0)
    = val_main_v81 (F := Ideal) x1 x2 x3 (ix3 b l 0) * (∑ k : Fin 80, x4 (ix3 b l k))
        * FloatOps.uitofp (F := Ideal) .f32 (x6 (ix2 b l)) := by
  pointwise [val_main_v83, val_main_v82, val_main_v79, val_main_v78, val_main_v77, val_main_v76, val_main_cst_12]

/-- The classification term of a score: under the label where the anchor is in the foreground, and under 80 elsewhere. -/
theorem cls : val_main_v32 (F := Ideal) x0 x4 x5 x6 (ix3 b l k)
    = clsRef (x0 (ix3 b l k)) (x4 (ix3 b l k)) (Scalar.select (x6 (ix2 b l)) (x5 (ix2 b l)) 80#32) k.val := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_c, val_main_cst,
    val_main_cst_0, val_main_cst_1, val_main_cst_2, val_main_cst_3, val_main_cst_4, val_main_cst_5, val_main_call0_v0,
    val_main_call0_v1, val_main_call1_v0, val_main_call1_v1, val_main_call1_v2, val_main_call1_v3, val_main_call1_v4,
    val_main_call2_v0, val_main_call2_v1, val_main_call2_v2, val_main_call2_v3, val_main_call2_v4]
  rfl

/-- The result, from the terms of all scores, the weighted box losses of all anchors and all targets. -/
theorem result : val_main_v88 (F := Ideal) x0 x1 x2 x3 x4 x5 x6 ix0
    = Ideal.div (∑ b : Fin 32, ∑ l : Fin 8400, ∑ k : Fin 80, val_main_v32 (F := Ideal) x0 x4 x5 x6 (ix3 b l k))
          (∑ b : Fin 32, ∑ l : Fin 8400, ∑ k : Fin 80, x4 (ix3 b l k))
        + Ideal.ofBits .f32 0x40200000#32
          * Ideal.div (∑ b : Fin 32, ∑ l : Fin 8400, val_main_v83 (F := Ideal) x1 x2 x3 x4 x6 (ix3 b l 0))
              (∑ b : Fin 32, ∑ l : Fin 8400, ∑ k : Fin 80, x4 (ix3 b l k)) := by
  pointwise [val_main_v88, val_main_v87, val_main_v86, val_main_v85, val_main_v84, val_main_v35, val_main_v34, val_main_v33,
    val_main_cst_6, val_main_cst_7, val_main_cst_14, val_main_cst_15, val_main_cst_16]
  simp only [Fin.sum_univ_one, Fin.isValue]

end Cert.ReferenceIdeal.Terms
-- ==== Proof.Inputs.lean ====
/-
  What the precondition says of one entry of an argument: a score between its bounds, and in the foreground a label that
  is not the background's; and the sum of all targets is not zero.
-/
module

public import proofs.«01_k».proof.Proof.Terms
public import proofs.«01_k».proof.Proof.Gen.Pre_inputs_ok
public import Idealize.ShloMosaic.Lib.ReduceAll

@[expose] public section

noncomputable section

open Idealize.ShloMosaic

namespace Cert.Inputs

open Cert.Pre_inputs_ok

/-- A condition's bit is one just where the condition holds. -/
theorem of_bit {p : Prop} [Decidable p] (h : BitVec.ofBool (decide p) = 1#1) : p := by
  by_contra hp
  simp [hp] at h

variable {x0 x4 : Vec Ideal S32x8400x80 .f32} {x1 x3 : Vec Ideal S32x8400x4 .f32} {x2 : Vec Ideal S8400x2 .f32}
  {x5 : IVec S32x8400 32} {x6 : IVec S32x8400 1}

/-- Every score is at least the clip's lower bound and below one. -/
theorem score (h : (fn (F := Ideal) x0 x1 x2 x3 x4 x5 x6).1 ix0 = 1#1) (b : Fin 32) (l : Fin 8400) (k : Fin 80) :
    Ideal.ofBits .f32 0x2B8CBCCC#32 ≤ x0 (ix3 b l k) ∧ x0 (ix3 b l k) < 1 := by
  dsimp only [fn] at h
  have e := Host.reduce_andi_all _ _ _ _ _ h (ix3 b l k)
  pointwise at e
  obtain ⟨e1, e2⟩ := IntOp.andi_eq_one.1 e
  exact ⟨of_bit e1, of_bit e2⟩

/-- No foreground anchor has the label 80. -/
theorem label (h : (fn (F := Ideal) x0 x1 x2 x3 x4 x5 x6).2.1 ix0 = 1#1) (b : Fin 32) (l : Fin 8400) :
    Scalar.select (x6 (ix2 b l)) (x5 (ix2 b l)) 0#32 ≠ 80#32 := by
  dsimp only [fn] at h
  have e := Host.reduce_andi_all _ _ _ _ _ h (ix2 b l)
  pointwise [fn_where] at e
  change IntOp.cmpi .ne (Scalar.select (x6 (ix2 b l)) (x5 (ix2 b l)) 0#32) 80#32 = 1#1 at e
  intro c
  rw [c] at e
  exact absurd e (by decide)

/-- The targets do not sum to zero. -/
theorem total (h : (fn (F := Ideal) x0 x1 x2 x3 x4 x5 x6).2.2 ix0 = 1#1) :
    ∑ b : Fin 32, ∑ l : Fin 8400, ∑ k : Fin 80, x4 (ix3 b l k) ≠ 0 := by
  pointwise [fn] at h
  exact of_bit h

end Cert.Inputs
-- ==== Proof.Algebra.lean ====
/-
  The facts about extended reals that join the kernel's terms to the reference's: the label read back from its number,
  the foreground weight, the two forms of the classification loss of one score, and the final quotient.
-/
module

public import proofs.«01_k».proof.Proof.Terms
public import Idealize.ShloMosaic.Lib.IdealHost

@[expose] public section

noncomputable section

open Idealize.ShloMosaic

namespace Cert.Loss

/-- A word converted to a number and back is the word. -/
theorem fptosi_sitofp (w : BitVec 32) :
    FloatOps.fptosi (F := Ideal) (φ := .f32) 32 (FloatOps.sitofp (F := Ideal) .f32 w) = w := by
  show BitVec.ofInt 32 (Ideal.toIntClamped _ _ ((w.toInt : ℝ) : EReal)) = w
  have h1 := BitVec.toInt_lt (x := w)
  have h2 := BitVec.le_toInt (x := w)
  rw [Ideal.toIntClamped_coe]
  simp only [Int.floor_intCast, Int.ceil_intCast, ite_self]
  rw [min_eq_right (by norm_num at h1 ⊢; omega), max_eq_right (by norm_num at h2 ⊢; omega), BitVec.ofInt_toInt]

/-- The background label as a number. -/
theorem ofBits_eighty : Ideal.ofBits .f32 0x42A00000#32 = ((80 : ℝ) : EReal) := by
  simp [Ideal.ofBits, Ideal.ieee, -EReal.coe_mul]; norm_num

/-- The foreground weight of a label that is not 80 in the foreground, 80 being put in place of it in the background, is
    the foreground bit. -/
theorem foreground_eq (fg : BitVec 1) (w : BitVec 32) (h : Scalar.select fg w 0#32 ≠ 80#32) :
    foreground (FloatOps.sitofp (F := Ideal) .f32 (Scalar.select fg w 80#32)) = FloatOps.uitofp (F := Ideal) .f32 fg := by
  rw [foreground, ofBits_eighty]
  rcases (by decide : ∀ f : BitVec 1, f = 0#1 ∨ f = 1#1) fg with rfl | rfl
  · have : FloatOps.sitofp (F := Ideal) .f32 (Scalar.select 0#1 w 80#32) = ((80 : ℝ) : EReal) := by
      show (((80#32 : BitVec 32).toInt : ℝ) : EReal) = _
      rw [show (80#32 : BitVec 32).toInt = 80 by decide]
      norm_num
    rw [this]
    show ((((BitVec.setWidth 32 (BitVec.ofBool (decide (((80 : ℝ) : EReal) ≠ ((80 : ℝ) : EReal))))).toInt : ℝ)) : EReal)
      = (((0#1).toNat : ℝ) : EReal)
    simp
  · have : FloatOps.sitofp (F := Ideal) .f32 (Scalar.select 1#1 w 80#32) ≠ ((80 : ℝ) : EReal) := by
      show ((w.toInt : ℝ) : EReal) ≠ _
      have : w.toInt ≠ 80 := fun e => h (BitVec.eq_of_toInt_eq (e.trans (by decide)))
      exact_mod_cast this
    rw [decide_eq_true this]
    show ((((BitVec.setWidth 32 (BitVec.ofBool true)).toInt : ℝ)) : EReal) = (((1#1).toNat : ℝ) : EReal)
    simp

/-- The three constants of the classification loss. -/
theorem ofBits_three_quarters : Ideal.ofBits .f32 0x3F400000#32 = ((3 / 4 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_floor : 0 < Ideal.ofBits .f32 0x2B8CBCCC#32 := by
  simp [Ideal.ofBits, Ideal.ieee, -EReal.coe_mul]

/-- The weight of a class that is the label's, and of one that is not. -/
theorem weight_eq (r s : ℝ) (w : BitVec 32) (c : Nat) :
    ∃ v : ℝ, Scalar.select (IntOp.cmpi .eq (BitVec.ofNat 32 c) w) (s : EReal) (((3 / 4 : ℝ) : EReal) * r * r) = (v : EReal)
      ∧ ((3 / 4 : ℝ) : EReal) * ((r ^ 2 : ℝ) : EReal) * (1 - FloatOps.uitofp (F := Ideal) .f32 (IntOp.cmpi .eq w (BitVec.ofNat 32 c)))
          + s * FloatOps.uitofp (F := Ideal) .f32 (IntOp.cmpi .eq w (BitVec.ofNat 32 c)) = (v : EReal) := by
  have one : FloatOps.uitofp (F := Ideal) .f32 1#1 = ((1 : ℝ) : EReal) := by
    show (((1#1).toNat : ℝ) : EReal) = _; simp
  have zero : FloatOps.uitofp (F := Ideal) .f32 0#1 = ((0 : ℝ) : EReal) := by
    show (((0#1).toNat : ℝ) : EReal) = _; simp
  by_cases h : w = BitVec.ofNat 32 c
  · have e : IntOp.cmpi .eq (BitVec.ofNat 32 c) w = 1#1 := by simp [IntOp.cmpi, h]
    have e' : IntOp.cmpi .eq w (BitVec.ofNat 32 c) = 1#1 := by simp [IntOp.cmpi, h]
    refine ⟨s, by rw [e]; rfl, ?_⟩
    rw [e', one, ← EReal.coe_one]
    simp only [← EReal.coe_mul, ← EReal.coe_sub, ← EReal.coe_add]
    exact congrArg _ (by ring)
  · have h' : BitVec.ofNat 32 c ≠ w := fun e => h e.symm
    have e : IntOp.cmpi .eq (BitVec.ofNat 32 c) w = 0#1 := by rw [IntOp.cmpi, beq_eq_false_iff_ne.2 h']; rfl
    have e' : IntOp.cmpi .eq w (BitVec.ofNat 32 c) = 0#1 := by rw [IntOp.cmpi, beq_eq_false_iff_ne.2 h]; rfl
    refine ⟨3 / 4 * r * r, by rw [e]; exact_mod_cast rfl, ?_⟩
    rw [e', zero, ← EReal.coe_one]
    simp only [← EReal.coe_mul, ← EReal.coe_sub, ← EReal.coe_add]
    exact congrArg _ (by ring)

/-- The reference's classification loss of a score is the negative of the kernel's term, and both are real. -/
theorem cls_eq (x t : EReal) (w : BitVec 32) (c : Nat) (h0 : Ideal.ofBits .f32 0x2B8CBCCC#32 ≤ x) (h1 : x < 1)
    (ht : ∃ s : ℝ, t = (s : EReal)) :
    ∃ v : ℝ, clsTerm x t (FloatOps.sitofp (F := Ideal) .f32 w) c = (v : EReal) ∧ clsRef x t w c = ((-v : ℝ) : EReal) := by
  obtain ⟨s, rfl⟩ := ht
  have hx : 0 < x := ofBits_floor.trans_le h0
  lift x to ℝ using ⟨(h1.trans (EReal.coe_lt_top 1)).ne, (EReal.bot_lt_zero.trans hx).ne'⟩ with r
  have r0 : 0 < r := by exact_mod_cast hx
  have r1 : r < 1 := by exact_mod_cast h1
  have log0 : Ideal.log (r : EReal) = (Real.log r : EReal) := by rw [Ideal.log_coe, if_neg (not_le.2 r0)]
  have sub1 : (1 : EReal) - r = ((1 - r : ℝ) : EReal) := by norm_cast
  have log1 : Ideal.log (1 - (r : EReal)) = (Real.log (1 - r) : EReal) := by
    rw [sub1, Ideal.log_coe, if_neg (by linarith)]
  have sq : Ideal.pow (r : EReal) ((2 : ℝ) : EReal) = ((r ^ 2 : ℝ) : EReal) := by
    rw [Ideal.pow_coe_coe]
    exact congrArg _ (Real.rpow_two r)
  obtain ⟨v, e1, e2⟩ := weight_eq r s w c
  refine ⟨(s * (Real.log r - Real.log (1 - r)) + Real.log (1 - r)) * v, ?_, ?_⟩
  · rw [clsTerm, fptosi_sitofp, ofBits_three_quarters, e1, log0, log1]
    norm_cast
  · simp only [clsRef]
    rw [max_eq_right h0, Ideal.ofBits_one_f32, min_eq_right h1.le, ofBits_two, ofBits_three_quarters, sq, e2, log0, log1]
    norm_cast
    ring

/-- The summands of a sum that is a real number are real numbers. -/
theorem real_of_sum {A : Type} (f : A → EReal) (s : Finset A) (hb : ∑ a ∈ s, f a ≠ ⊥) (ht : ∑ a ∈ s, f a ≠ ⊤) :
    ∀ a ∈ s, f a ≠ ⊥ ∧ f a ≠ ⊤ := by
  classical
  intro a ha
  rw [← Finset.add_sum_erase s f ha] at hb ht
  obtain ⟨h1, h2⟩ := not_or.1 (mt EReal.add_eq_bot_iff.2 hb)
  refine ⟨h1, fun e => ht ?_⟩
  rw [e, EReal.top_add_of_ne_bot h2]

/-- A quotient by an infinite number is zero. -/
theorem div_infinite (x u : EReal) (h : u = ⊥ ∨ u = ⊤) : Ideal.div x u = 0 := by
  rcases h with rfl | rfl <;> simp [Ideal.div]

/-- The weight of the box loss. -/
theorem ofBits_five_halves : Ideal.ofBits .f32 0x40200000#32 = ((5 / 2 : ℝ) : EReal) := by
  simp [Ideal.ofBits, Ideal.ieee, -EReal.coe_mul]; norm_num

/-- The quotient of the weighted sum by a real that is not zero, taken apart; the box loss may be infinite. -/
theorem div_add (a u : ℝ) (S : EReal) (hu : u ≠ 0) :
    Ideal.div ((a : EReal) + Ideal.ofBits .f32 0x40200000#32 * S) (u : EReal)
      = Ideal.div (a : EReal) (u : EReal) + Ideal.ofBits .f32 0x40200000#32 * Ideal.div S (u : EReal) := by
  rw [ofBits_five_halves, Ideal.div_coe hu, Ideal.div_coe hu, Ideal.div_coe hu]
  have b0 : (0 : ℝ) < 5 / 2 := by norm_num
  have hv : 1 / u ≠ 0 := one_div_ne_zero hu
  generalize 1 / u = v at hv
  induction S with
  | coe s => norm_cast; ring
  | top =>
    rw [EReal.coe_mul_top_of_pos b0, EReal.coe_add_top]
    rcases hv.lt_or_gt with h | h
    · rw [EReal.top_mul_coe_of_neg h, EReal.coe_mul_bot_of_pos b0, EReal.add_bot]
    · rw [EReal.top_mul_coe_of_pos h, EReal.coe_mul_top_of_pos b0, ← EReal.coe_mul, EReal.coe_add_top]
  | bot =>
    rw [EReal.coe_mul_bot_of_pos b0, EReal.add_bot]
    rcases hv.lt_or_gt with h | h
    · rw [EReal.bot_mul_coe_of_neg h, EReal.coe_mul_top_of_pos b0, ← EReal.coe_mul, EReal.coe_add_top]
    · rw [EReal.bot_mul_coe_of_pos h, EReal.coe_mul_bot_of_pos b0, EReal.add_bot]

end Cert.Loss
-- ==== Proof.Equation.lean ====
/-
  The kernel's result is the reference's, under the precondition.
-/
module

public import proofs.«01_k».proof.Proof.Result
public import proofs.«01_k».proof.Proof.RefTerms
public import proofs.«01_k».proof.Proof.Inputs
public import proofs.«01_k».proof.Proof.Algebra

@[expose] public section

noncomputable section

open Idealize.ShloMosaic Idealize.ShloMosaic.TcCoe Idealize.SL.Sem

namespace Cert.Equation

open Cert.Loss

/-- A finite sum of reals, as an extended real. -/
theorem coe_sum_univ {A : Type} [Fintype A] (f : A → ℝ) : ((∑ a, f a : ℝ) : EReal) = ∑ a, (f a : EReal) :=
  map_sum (⟨⟨Real.toEReal, EReal.coe_zero⟩, EReal.coe_add⟩ : ℝ →+ EReal) f Finset.univ

/-- A sum of three indices whose terms are real is real, and so is the sum of their negatives. -/
theorem real_sums {A B K : Type} [Fintype A] [Fintype B] [Fintype K] (f g : A → B → K → EReal)
    (h : ∀ a b k, ∃ v : ℝ, f a b k = (v : EReal) ∧ g a b k = ((-v : ℝ) : EReal)) :
    ∃ v : ℝ, ∑ a, ∑ b, ∑ k, f a b k = (v : EReal) ∧ ∑ a, ∑ b, ∑ k, g a b k = ((-v : ℝ) : EReal) := by
  choose v hf hg using h
  refine ⟨∑ a, ∑ b, ∑ k, v a b k, ?_, ?_⟩
  · simp only [hf, ← coe_sum_univ]
  · simp only [hg, ← coe_sum_univ, ← Finset.sum_neg_distrib]

section

open Cert.KernelIdeal Cert.KernelIdeal.Gen Cert.KernelIdeal.Rows

variable (m : (ℓ : Loc nD τ sig) → Buf (Elt Ideal) ℓ) (c : Dev nD)

/-- The labels and the foreground bits. -/
abbrev labels : IVec S32x8400 32 := m ((c : Thread nD τ).loc main_arg5)
abbrev fore : IVec S32x8400 1 := m ((c : Thread nD τ).loc main_arg6)

/-- The precondition of the argument arrays of one device. -/
abbrev conditions := Cert.Pre_inputs_ok.fn (F := Ideal) (scores m c) (distances m c) (anchors m c) (boxes m c) (targets m c) (labels m c) (fore m c)

/-- The weighted box losses agree term by term. -/
theorem box_eq (h : (conditions m c).2.1 ix0 = 1#1) (b : Fin 32) (l : Fin 8400) :
    Cert.ReferenceIdeal.Read.val_main_v83 (F := Ideal) (distances m c) (anchors m c) (boxes m c) (targets m c) (fore m c) (ix3 b l 0)
      = anchorLoss m c b l * foreground (label m c b l) * ∑ k : Fin 80, targets m c (ix3 b l k) := by
  rw [Cert.ReferenceIdeal.Terms.box_weighted, Cert.ReferenceIdeal.Terms.box, mul_right_comm]
  exact congrArg (fun w => anchorLoss m c b l * w * ∑ k : Fin 80, targets m c (ix3 b l k))
    (foreground_eq _ _ (Cert.Inputs.label h b l)).symm

/-- The two results agree where the sum of the targets is infinite: every quotient is zero. -/
theorem infinite_eq (C C' S T : EReal) (h : T = ⊥ ∨ T = ⊤) :
    Ideal.div (C + Ideal.ofBits .f32 0x40200000#32 * S) T
      = Ideal.div C' T + Ideal.ofBits .f32 0x40200000#32 * Ideal.div S T := by
  rw [div_infinite _ _ h, div_infinite _ _ h, div_infinite _ _ h, mul_zero, add_zero]

/-- Where the sum of the targets is a real number, so is every target. -/
theorem target_real (hb : ∑ b : Fin 32, ∑ l : Fin 8400, ∑ k : Fin 80, targets m c (ix3 b l k) ≠ ⊥)
    (ht : ∑ b : Fin 32, ∑ l : Fin 8400, ∑ k : Fin 80, targets m c (ix3 b l k) ≠ ⊤) (b : Fin 32) (l : Fin 8400) (k : Fin 80) :
    ∃ s : ℝ, targets m c (ix3 b l k) = (s : EReal) := by
  obtain ⟨h1, h2⟩ := real_of_sum _ _ hb ht b (Finset.mem_univ b)
  obtain ⟨h3, h4⟩ := real_of_sum _ _ h1 h2 l (Finset.mem_univ l)
  obtain ⟨h5, h6⟩ := real_of_sum _ _ h3 h4 k (Finset.mem_univ k)
  exact ⟨_, (EReal.coe_toReal h6 h5).symm⟩

/-- The kernel's result is the reference's. -/
theorem value_eq (h0 : (conditions m c).1 ix0 = 1#1) (h1 : (conditions m c).2.1 ix0 = 1#1)
    (h2 : (conditions m c).2.2 ix0 = 1#1) :
    (Pipeline.afterTail₀ cfgs (dats m) 0 (V0 m) [hostOps1] c main_v25 : Vec Ideal S_ .f32)
      = Cert.ReferenceIdeal.Read.val_main_v88 (F := Ideal) (scores m c) (distances m c) (anchors m c) (boxes m c) (targets m c)
          (labels m c) (fore m c) := by
  refine funext fun (i : S_.Idx) => ?_
  rw [Subsingleton.elim i ix0, result, Cert.ReferenceIdeal.Terms.result]
  simp only [box_eq m c h1]
  by_cases hT : ∑ b : Fin 32, ∑ l : Fin 8400, ∑ k : Fin 80, targets m c (ix3 b l k) = ⊥
      ∨ ∑ b : Fin 32, ∑ l : Fin 8400, ∑ k : Fin 80, targets m c (ix3 b l k) = ⊤
  · exact infinite_eq _ _ _ _ hT
  obtain ⟨hb, ht⟩ := not_or.1 hT
  have real := target_real m c hb ht
  obtain ⟨v, hv, hv'⟩ := real_sums
    (fun b l k => clsTerm (scores m c (ix3 b l k)) (targets m c (ix3 b l k)) (label m c b l) k.val)
    (fun b l k => Cert.ReferenceIdeal.Read.val_main_v32 (F := Ideal) (scores m c) (targets m c) (labels m c) (fore m c) (ix3 b l k))
    (fun b l k => by
      rw [Cert.ReferenceIdeal.Terms.cls]
      obtain ⟨low, high⟩ := Cert.Inputs.score h0 b l k
      exact cls_eq _ _ _ _ low high (real b l k))
  have hu := EReal.coe_toReal ht hb
  have hu0 := fun e => Cert.Inputs.total h2 (hu.symm.trans (congrArg Real.toEReal e))
  rw [hv, hv', ← hu, ← EReal.coe_neg]
  exact div_add _ _ _ hu0

end

end Cert.Equation
-- ==== Proof.lean ====
/-
  The claims about the detection-loss kernel, proved: the frames of the kernel, of its ideal form and of the reference,
  the ideal form being the kernel's, and the ideal kernel's result being the reference's under the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_ok
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run: the result is what the lines after the launch make of the final array. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v25)
          = Pipeline.afterTail₀ Cert.KernelIdeal.cfgs (Cert.KernelIdeal.Gen.dats m) 0 (Cert.KernelIdeal.Gen.V0 m)
              [Cert.KernelIdeal.Gen.hostOps1] c Cert.KernelIdeal.main_v25) :=
  θ_run_mono (Cert.KernelIdeal.Gen.run_main m g) fun _ h c => h.rest_eq c Cert.KernelIdeal.main_v25 (by decide)

/-- The two programs end with the same result. -/
theorem algebraic : Cert.algebraic_KernelIdeal_ReferenceIdeal_pre_inputs_ok := by
  intro m g m' g' hpre hagree
  refine ⟨fun c => Pipeline.afterTail₀ Cert.KernelIdeal.cfgs (Cert.KernelIdeal.Gen.dats m) 0 (Cert.KernelIdeal.Gen.V0 m)
              [Cert.KernelIdeal.Gen.hostOps1] c Cert.KernelIdeal.main_v25, ?_, ?_⟩
  · exact θ_run_mono (θ_run_and (kernel_run m g) (Cert.KernelIdeal.Gen.unchanged m g)) fun _ h c => ⟨h.1 c, h.2 c⟩
  · refine θ_run_mono (Cert.ReferenceIdeal.Value.run m' g') fun r h c => ⟨?_, (h c).2⟩
    obtain ⟨e0, e1, e2, e3, e4, e5, e6⟩ := hagree c
    obtain ⟨p0, p1, p2⟩ := hpre c
    refine (h c).1.trans ((Cert.ReferenceIdeal.Read.val_main_v88_eq m' c).trans ?_)
    rw [e0, e1, e2, e3, e4, e5, e6]
    exact (Cert.Equation.value_eq m c (congrFun p0 ix0) (congrFun p1 ix0) (congrFun p2 ix0)).symm

/-- The reference leaves its arguments alone; it has no semaphore. -/
theorem reference_frame : Cert.quiescent_ReferenceIdeal := fun m g _ =>
  θ_run_mono (Cert.ReferenceIdeal.Value.run m g) fun r h => ⟨fun c => (h c).2, sem_eq_zero_of_no_sems (by decide) r.2⟩

/-- All claims. -/
theorem claim : Cert.Claim := ⟨Cert.Kernel.Gen.facts, Cert.KernelIdeal.Gen.facts, Cert.ReferenceIdeal.Gen.facts, Cert.Pre_inputs_ok.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
